-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S4 : Shape := ⟨1, ![4]⟩
abbrev S_ : Shape := ⟨0, ![]⟩
abbrev S64x256 : Shape := ⟨2, ![64, 256]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .bf16⟩
  | .hbm, ⟨1, _⟩ => ⟨S256x256, .f32⟩
  | .local _ .vmem, ⟨0, _⟩ => ⟨S256x256, .bf16⟩
  | .local _ .vmem, ⟨1, _⟩ => ⟨S256x256, .f32⟩
  | .local _ .vmem, ⟨2, _⟩ => ⟨S256x256, .bf16⟩
  | .local _ .vmem, ⟨3, _⟩ => ⟨S256x256, .bf16⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_14 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_13 : BitVec 32 := 16#32
  let v22 : BitVec 32 := Scalar.muli v9 c16_i32_13
  let v23 : BitVec 32 := Scalar.addi c0_i32_14 v22
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_15 : BitVec 32 := 4#32
  let v24 : BitVec 32 := Scalar.muli v5 c4_i32_15
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v26 : BitVec 32 := Scalar.muli v8 c1_i32_16
  let v27 : BitVec 32 := Scalar.addi v25 v26
  v27.toNat
def k0_dev3 (d0 : Dev nD) : Nat :=
  let c0_i32_27 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_26 : BitVec 32 := 16#32
  let v39 : BitVec 32 := Scalar.muli v9 c16_i32_26
  let v40 : BitVec 32 := Scalar.addi c0_i32_27 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_28 : BitVec 32 := 4#32
  let v41 : BitVec 32 := Scalar.muli v5 c4_i32_28
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v43 : BitVec 32 := Scalar.muli v8 c1_i32_29
  let v44 : BitVec 32 := Scalar.addi v42 v43
  v44.toNat
def k0_dev4 (d0 : Dev nD) : Nat :=
  let c0_i32_39 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_38 : BitVec 32 := 16#32
  let v56 : BitVec 32 := Scalar.muli v9 c16_i32_38
  let v57 : BitVec 32 := Scalar.addi c0_i32_39 v56
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_40 : BitVec 32 := 4#32
  let v58 : BitVec 32 := Scalar.muli v5 c4_i32_40
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v60 : BitVec 32 := Scalar.muli v8 c1_i32_41
  let v61 : BitVec 32 := Scalar.addi v59 v60
  v61.toNat
def k0_dev5 (d0 : Dev nD) : Nat :=
  let c0_i32_50 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_49 : BitVec 32 := 16#32
  let v73 : BitVec 32 := Scalar.muli v9 c16_i32_49
  let v74 : BitVec 32 := Scalar.addi c0_i32_50 v73
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_51 : BitVec 32 := 4#32
  let v75 : BitVec 32 := Scalar.muli v5 c4_i32_51
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v77 : BitVec 32 := Scalar.muli v8 c1_i32_52
  let v78 : BitVec 32 := Scalar.addi v76 v77
  v78.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x256 : Shape := ⟨2, ![512, 256]⟩
abbrev S2x256x256 : Shape := ⟨3, ![2, 256, 256]⟩
abbrev S_ : Shape := ⟨0, ![]⟩
abbrev S256x256 : Shape := ⟨2, ![256, 256]⟩

abbrev nBuf : Space → Nat
  | .hbm => 7
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S2x256x256, .bf16⟩
  | .hbm, ⟨2, _⟩ => ⟨S2x256x256, .f32⟩
  | .hbm, ⟨3, _⟩ => ⟨S_, .f32⟩
  | .hbm, ⟨4, _⟩ => ⟨S256x256, .f32⟩
  | .hbm, ⟨5, _⟩ => ⟨S256x256, .bf16⟩
  | .hbm, ⟨6, _⟩ => ⟨S256x256, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Swap.Ground.lean ====
/-
# The exchange between the two x-halves of the mesh: devices, semaphores, row chunks

The kernel runs on a 2 × 4 × 4 mesh. Each device exchanges its block with the device
that has the other first coordinate, in four chunks of 64 rows. This module names the
partner, the nine semaphores a device takes part with, and the four chunks, and states
what a copy of one chunk does to a buffer.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring.AtN
public import Idealize.ShloMosaic.Lib.Tactic

@[expose] public section

noncomputable section

namespace Cert.Swap

open Cert.KernelIdeal Cert.KernelIdeal.Gen
open Idealize.ShloMosaic Idealize.ShloMosaic.TcCoe
open Idealize.SL Idealize.SL.Sem

/-! ## Partners -/

/-- The device with the other first mesh coordinate: logical ids `c` and `c ± 16`. -/
def peer (c : Dev nD) : Dev nD := ⟨(c.val + 16) % 32, Nat.mod_lt _ (by decide)⟩

/-- A partner's partner is the device itself. -/
theorem peer_peer (c : Dev nD) : peer (peer c) = c := by
  apply Fin.ext; have h : c.val < 32 := c.isLt; show ((c.val + 16) % 32 + 16) % 32 = c.val; omega

/-- Exchanging partners permutes the devices. -/
def flip : Dev nD ≃ Dev nD := ⟨peer, peer, peer_peer, peer_peer⟩

/-- Partnership read from either side. -/
theorem peer_eq_iff {d c : Dev nD} : peer d = c ↔ d = peer c := flip.apply_eq_iff_eq_symm_apply

/-- The number the kernel computes for a target device is the partner's. -/
theorem flip_word (c : Dev nD) : (4 * ((c.val / 4) % 4) + c.val % 4 + 16) - 16 * (c.val / 16) = (c.val + 16) % 32 := by
  have h : c.val < 32 := c.isLt; omega

/-- The five target computations of the kernel, one by the signal and one by each copy. -/
theorem dev1_eq (c : Dev nD) : (⟨k0_dev1 c, k0_dev1_lt c⟩ : Dev nD) = peer c := Fin.ext ((k0_dev1_eq c).trans (flip_word c))
theorem dev2_eq (c : Dev nD) : (⟨k0_dev2 c, k0_dev2_lt c⟩ : Dev nD) = peer c := Fin.ext ((k0_dev2_eq c).trans (flip_word c))
theorem dev3_eq (c : Dev nD) : (⟨k0_dev3 c, k0_dev3_lt c⟩ : Dev nD) = peer c := Fin.ext ((k0_dev3_eq c).trans (flip_word c))
theorem dev4_eq (c : Dev nD) : (⟨k0_dev4 c, k0_dev4_lt c⟩ : Dev nD) = peer c := Fin.ext ((k0_dev4_eq c).trans (flip_word c))
theorem dev5_eq (c : Dev nD) : (⟨k0_dev5 c, k0_dev5_lt c⟩ : Dev nD) = peer c := Fin.ext ((k0_dev5_eq c).trans (flip_word c))

/-! ## Row chunks -/

/-- Chunk `k` lies within a block. -/
theorem rows_in (k : Fin 4) : ∀ a : Fin 2, (![64 * k.val, 0] : Fin 2 → ℕ) a + S64x256.size a ≤ S256x256.size a := by
  intro a; have := k.isLt; fin_cases a
  · show 64 * k.val + 64 ≤ 256; omega
  · show 0 + 256 ≤ 256; omega

/-- Chunk `k` of a block: rows `64 k` to `64 k + 63`, every column. -/
abbrev chunk (k : Fin 4) : Rect S256x256 := Rect.unit (s := S256x256) ![64 * k.val, 0] S64x256.size (rows_in k)

/-- The elements of chunk `k`. -/
abbrev rows (k : Fin 4) : Finset S256x256.Idx := (chunk k).set

/-- An index lies in the chunk its row falls into. -/
theorem mem_rows {k : Fin 4} {i : S256x256.Idx} : i ∈ rows k ↔ (i 0).val / 64 = k.val := by
  rw [Rect.mem_set_unit]
  have h1 : (i 1).val < 256 := (i 1).isLt
  constructor
  · intro h
    have h0 : 64 * k.val ≤ (i 0).val ∧ (i 0).val < 64 * k.val + 64 := h 0
    omega
  · intro h a
    fin_cases a
    · show 64 * k.val ≤ (i 0).val ∧ (i 0).val < 64 * k.val + 64; omega
    · show 0 ≤ (i 1).val ∧ (i 1).val < 0 + 256; omega

/-- An element of chunk `k` is one of the 64 × 256 the chunk is indexed by. -/
theorem exists_emb {k : Fin 4} {i : S256x256.Idx} (hi : i ∈ rows k) : ∃ j : S64x256.Idx, (chunk k).emb j = i :=
  (chunk k).toLoadRect.exists_idx_of_mem hi

/-- Different chunks share no element, -/
theorem rows_disjoint (k k' : Fin 4) (h : k ≠ k') : Disjoint (rows k) (rows k') :=
  Finset.disjoint_left.mpr fun _ hi hi' => h (Fin.ext ((mem_rows.mp hi).symm.trans (mem_rows.mp hi')))

/-- and every element is in one. -/
theorem rows_cover : Finset.univ.biUnion rows = Finset.univ := by
  ext i
  have h0 : (i 0).val < 256 := (i 0).isLt
  simp only [Finset.mem_biUnion, Finset.mem_univ, true_and, iff_true]
  exact ⟨⟨(i 0).val / 64, by omega⟩, mem_rows.mpr rfl⟩

/-! ## Semaphores -/

/-- Semaphore `k` lies within an array of four. -/
theorem sem_in (k : Fin 4) : ∀ a : Fin 1, (![k.val] : Fin 1 → ℕ) a + S1.size a ≤ S4.size a := by
  intro a; have := k.isLt; fin_cases a; show k.val + 1 ≤ 4; omega

/-- The runtime's barrier semaphore. -/
abbrev barS : Sem sig := (SemArray.scalar (sig.barrier 0 rfl) : Sems sig S_).sem
/-- The semaphore of the `k`-th copy at its sender, -/
abbrev sendS (k : Fin 4) : DmaSem sig :=
  ((cc0_scratch2.slice (Rect.unit (s := S4) ![k.val] S1.size (sem_in k))).squeeze S_ squeezes_S1_S_).sem
/-- and at its receiver. -/
abbrev recvS (k : Fin 4) : DmaSem sig :=
  ((cc0_scratch3.slice (Rect.unit (s := S4) ![k.val] S1.size (sem_in k))).squeeze S_ squeezes_S1_S_).sem

/-- A device's part in the protocol: the barrier, the four sends, the four receipts. -/
abbrev Slot : Type := Unit ⊕ (Fin 4 ⊕ Fin 4)

/-- The eight semaphores of the kernel's own, -/
abbrev osem : Fin 4 ⊕ Fin 4 → SemLoc sig
  | .inl k => .dma (sendS k)
  | .inr k => .dma (recvS k)
/-- and the nine with the barrier. -/
abbrev csem : Slot → SemLoc sig
  | .inl _ => .reg barS
  | .inr j => osem j

/-- Which part a semaphore plays, if any. -/
def slotOf : SemLoc sig → Option Slot
  | .reg _ => some (.inl ())
  | .dma q => if q.val < 2 then none
    else if q.val < 6 then some (.inr (.inl (Fin.ofNat 4 (q.val - 2))))
    else some (.inr (.inr (Fin.ofNat 4 (q.val - 6))))

/-- Each semaphore plays its own part. -/
theorem slotOf_csem (s : Slot) : slotOf (csem s) = some s := by revert s; decide

/-- So no two parts share a semaphore. -/
theorem csem_injective : Function.Injective csem := fun s s' h =>
  Option.some.inj ((slotOf_csem s).symm.trans ((congrArg slotOf h).trans (slotOf_csem s')))

/-- The kernel's own eight semaphores are distinct and apart from the staging pipeline's. -/
theorem ownSemFacts : Pipeline.OwnSemFacts cfg0.spec osem := by decide

/-! ## Buffers, chunk by chunk -/

/-- The staged block of `x`, the staged result, the send buffer, the receive buffer. -/
abbrev xM : Memref sig .tc .vmem S256x256 .bf16 := Memref.whole cc0_stg0_0
abbrev oM : Memref sig .tc .vmem S256x256 .f32 := Memref.whole cc0_stg1_0
abbrev sM : Memref sig .tc .vmem S256x256 .bf16 := Memref.whole cc0_scratch0
abbrev rM : Memref sig .tc .vmem S256x256 .bf16 := Memref.whole cc0_scratch1

/-- Chunk `k` of the send buffer, -/
abbrev sC (k : Fin 4) : Memref sig .tc .vmem S64x256 .bf16 := sM.slice (chunk k) (fun _ => rfl)
/-- and of the receive buffer. -/
abbrev rC (k : Fin 4) : Memref sig .tc .vmem S64x256 .bf16 := rM.slice (chunk k) (fun _ => rfl)

/-- What one copied chunk counts on a semaphore. -/
abbrev N : ℕ := (rC 0).view.dmaCredit
/-- It counts something, -/
theorem N_pos : 0 < N := View.dmaCredit_pos _ (by decide)
/-- the same for every chunk at its receiver -/
theorem credit_r (k : Fin 4) : (rC k).view.dmaCredit = N := rfl
/-- and at its sender. -/
theorem credit_s (k : Fin 4) : (sC k).view.dmaCredit = N := rfl

/-- A chunk of a buffer covers the rows of that chunk, in the receive buffer -/
theorem rC_set (k : Fin 4) : (rC k).view.set = rows k := View.set_slice_whole _ _
/-- and in the send buffer. -/
theorem sC_set (k : Fin 4) : (sC k).view.set = rows k := View.set_slice_whole _ _

section Contents

variable {F : FTy → Type} [FloatOps F]

/-- A copied chunk lands as it left: on chunk `k` the receive buffer then holds what the send buffer holds. -/
theorem copied (k : Fin 4) (fd : (cc0_scratch1 : Ref sig .tc).ty.Contents (Elt F)) (fs : (cc0_scratch0 : Ref sig .tc).ty.Contents (Elt F))
    (i : S256x256.Idx) (hi : i ∈ rows k) :
    (rC k).view.write (Elt F) fd ((sC k).view.read (Elt F) fs) Finset.univ i = fs i := by
  obtain ⟨j, rfl⟩ := exists_emb hi
  exact View.write_emb_of_mem (v := (rC k).view) fd _ (Finset.mem_univ j)

/-- Chunk `k` of `x` stored to the send buffer: there the send buffer then holds what `x` holds. -/
theorem staged (k : Fin 4) (fd : (cc0_scratch0 : Ref sig .tc).ty.Contents (Elt F)) (fs : (cc0_stg0_0 : Ref sig .tc).ty.Contents (Elt F))
    (i : S256x256.Idx) (hi : i ∈ rows k) :
    (sM.access (chunk k)).write (Elt F) fd (xM.view.readAt (Elt F) (chunk k).toLoadRect fs) Finset.univ i = fs i := by
  obtain ⟨j, rfl⟩ := exists_emb hi
  exact View.write_emb_of_mem (v := sM.access (chunk k)) fd _ (Finset.mem_univ j)

/-- The sum of two blocks, element by element, each widened first. -/
def sumOf (x r : S256x256.Idx → Elt F .bf16) : S256x256.Idx → Elt F .f32 :=
  addf (extf .f32 (x : FVec F S256x256 .bf16) bitsLt_bf16_f32) (extf .f32 (r : FVec F S256x256 .bf16) bitsLt_bf16_f32)

/-- The payload of an output store, whichever chunk it is of: the sum of the two chunks read. -/
def paySum (x r : Vec F S64x256 .bf16) : FVec F S64x256 .f32 :=
  addf (extf .f32 (x : FVec F S64x256 .bf16) bitsLt_bf16_f32) (extf .f32 (r : FVec F S64x256 .bf16) bitsLt_bf16_f32)

/-- The printed payloads: a store to the send buffer stores what it read, -/
theorem pay2_eq (x : Vec F S64x256 .bf16) : k0_pay2 x = x := by unfold k0_pay2; dsimp only; rw [shapeCast_self, shapeCast_self]
theorem pay3_eq (x : Vec F S64x256 .bf16) : k0_pay3 x = x := by unfold k0_pay3; dsimp only; rw [shapeCast_self, shapeCast_self]
theorem pay4_eq (x : Vec F S64x256 .bf16) : k0_pay4 x = x := by unfold k0_pay4; dsimp only; rw [shapeCast_self, shapeCast_self]
theorem pay5_eq (x : Vec F S64x256 .bf16) : k0_pay5 x = x := by unfold k0_pay5; dsimp only; rw [shapeCast_self, shapeCast_self]
/-- and an output store the sum. -/
theorem pay6_eq (x r : Vec F S64x256 .bf16) : k0_pay6 x r = paySum x r := by unfold k0_pay6; dsimp only; rw [shapeCast_self]; rfl
theorem pay7_eq (x r : Vec F S64x256 .bf16) : k0_pay7 x r = paySum x r := by unfold k0_pay7; dsimp only; rw [shapeCast_self]; rfl
theorem pay8_eq (x r : Vec F S64x256 .bf16) : k0_pay8 x r = paySum x r := by unfold k0_pay8; dsimp only; rw [shapeCast_self]; rfl
theorem pay1_eq (x r : Vec F S64x256 .bf16) : k0_pay1 (k0_pay9 x) (k0_pay10 r) = paySum x r := by
  unfold k0_pay1 k0_pay9 k0_pay10; dsimp only; rw [shapeCast_self]; rfl

/-- The output after the store of chunk `k`: the sum on chunk `k`, as before elsewhere. -/
theorem summed (k : Fin 4) (fo : (cc0_stg1_0 : Ref sig .tc).ty.Contents (Elt F)) (x : (cc0_stg0_0 : Ref sig .tc).ty.Contents (Elt F))
    (r : (cc0_scratch1 : Ref sig .tc).ty.Contents (Elt F)) :
    (oM.access (chunk k)).write (Elt F) fo
        (paySum (xM.view.readAt (Elt F) (chunk k).toLoadRect x) (rM.view.readAt (Elt F) (chunk k).toLoadRect r)) Finset.univ
      = (rows k).piecewise (sumOf x r) fo := by
  funext i
  by_cases hi : i ∈ rows k
  · rw [Finset.piecewise_eq_of_mem _ _ _ hi]
    obtain ⟨j, rfl⟩ := exists_emb hi
    exact View.write_emb_of_mem (v := oM.access (chunk k)) fo _ (Finset.mem_univ j)
  · rw [Finset.piecewise_eq_of_notMem _ _ _ hi]
    refine View.write_of_not_mem (v := oM.access (chunk k)) fo _ Finset.univ fun h => hi ?_
    have h' : i ∈ (oM.access (chunk k)).set := h
    rwa [View.set_slice_whole] at h'

/-- With the four chunks stored, in whatever order they are, the output is the sum everywhere. -/
theorem summed_all {α : Type} (g f : S256x256.Idx → α) :
    (rows 3).piecewise g ((rows 2).piecewise g ((rows 1).piecewise g ((rows 0).piecewise g f))) = g := by
  funext i
  have h0 : (i 0).val < 256 := (i 0).isLt
  by_cases h : i ∈ rows 3
  · exact Finset.piecewise_eq_of_mem _ _ _ h
  rw [Finset.piecewise_eq_of_notMem _ _ _ h]
  by_cases h2 : i ∈ rows 2
  · exact Finset.piecewise_eq_of_mem _ _ _ h2
  rw [Finset.piecewise_eq_of_notMem _ _ _ h2]
  by_cases h1 : i ∈ rows 1
  · exact Finset.piecewise_eq_of_mem _ _ _ h1
  rw [Finset.piecewise_eq_of_notMem _ _ _ h1]
  refine Finset.piecewise_eq_of_mem _ _ _ (mem_rows.mpr ?_)
  rw [mem_rows] at h h1 h2
  have e3 : ((3 : Fin 4) : ℕ) = 3 := rfl
  have e2 : ((2 : Fin 4) : ℕ) = 2 := rfl
  have e1 : ((1 : Fin 4) : ℕ) = 1 := rfl
  have e0 : ((0 : Fin 4) : ℕ) = 0 := rfl
  omega

end Contents

end Cert.Swap

end
-- ==== Proof.Swap.Schedule.lean ====
/-
# The protocol's tables

Who pays which semaphore, how much, and what memory changes hands with the payment; the
order in which a device may wait; what each device owes at the start; and the proof data
of the kernel's one region.

Each of the nine semaphores of a device is paid once. The partner's signal pays the
barrier one unit and hands over the partner's receive buffer. The partner's `k`-th copy
pays the `k`-th receipt semaphore, and chunk `k` of the receive buffer comes with it,
holding the partner's rows. The device's own `k`-th copy pays its `k`-th send semaphore
and gives chunk `k` of the send buffer back.
-/
module

public import proofs.«01_k».proof.Proof.Swap.Ground

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

/-- Ghost state: the staging pipeline's rounds and this protocol's. -/
abbrev UU : Type := UR sig nD τ × UR sig nD τ

local notation "𝕄" => MT nD τ sig Unit (Elt F) ℕ UU ℕ

/-- Where the staging pipeline's part lies, -/
abbrev EP : Emb (UR sig nD τ) (MT nD τ sig Unit (Elt F) ℕ UU ℕ) := embL
/-- and this protocol's. -/
abbrev ER : Emb (UR sig nD τ) (MT nD τ sig Unit (Elt F) ℕ UU ℕ) := embR

variable (m : (ℓ : Loc nD τ sig) → Buf (Elt F) ℓ) (ρ : Dev nD → PrngReg)

/-- The start: memory `m`, every semaphore at zero. -/
def s₀ : MemSt nD τ sig (Elt F) := ⟨m, fun _ => 0, ρ⟩

/-! ## Cells -/

/-- A device's barrier, -/
abbrev barCell (c : Dev nD) : GSem nD τ sig := ((c : Thread nD τ), .reg barS)
/-- its semaphore for its own `k`-th copy, -/
abbrev sendCell (k : Fin 4) (c : Dev nD) : GSem nD τ sig := ((c : Thread nD τ), .dma (sendS k))
/-- and for its partner's. -/
abbrev recvCell (k : Fin 4) (c : Dev nD) : GSem nD τ sig := ((c : Thread nD τ), .dma (recvS k))
/-- A device's cell for a part of the protocol. -/
abbrev cell (c : Dev nD) (s : Slot) : GSem nD τ sig := ((c : Thread nD τ), csem s)

/-- Cells of different devices or parts are different. -/
theorem cell_inj {c d : Dev nD} {s t : Slot} (h : cell c s = cell d t) : c = d ∧ s = t :=
  ⟨Fin.ext (congrArg (fun g : GSem nD τ sig => g.1.1.val) h), csem_injective (congrArg Prod.snd h)⟩

/-! ## Contents -/

/-- Device `c`'s block of `x`, as staged. -/
def xstg (c : Dev nD) : S256x256.Idx → Elt F .bf16 :=
  (win0_0.blk (0 : Fin 1)).view.read (Elt F) ((s₀ m ρ).mem ((c : Thread nD τ).loc main_arg0))

/-- Device `c`'s result: its block plus its partner's. -/
def outAt (c : Dev nD) : S256x256.Idx → Elt F .f32 := sumOf (xstg m ρ c) (xstg m ρ (peer c))

/-- The elements `S` of device `c`'s send buffer, -/
def sPts (c : Dev nD) (S : Finset S256x256.Idx) (f : S256x256.Idx → Elt F .bf16) : sProp 𝕄 :=
  ((c : Thread nD τ).loc cc0_scratch0) ↦[S]{fullShare} f
/-- and of its receive buffer. -/
def rPts (c : Dev nD) (S : Finset S256x256.Idx) (f : S256x256.Idx → Elt F .bf16) : sProp 𝕄 :=
  ((c : Thread nD τ).loc cc0_scratch1) ↦[S]{fullShare} f

instance sPts_storable (c : Dev nD) (S f) : BI.Storable (upEmb : UEmb _ 𝕄) (sPts (F := F) c S f) := by unfold sPts; infer_instance
instance rPts_storable (c : Dev nD) (S f) : BI.Storable (upEmb : UEmb _ 𝕄) (rPts (F := F) c S f) := by unfold rPts; infer_instance

/-- Only the contents on the elements held matter, for the send buffer -/
theorem sPts_congr (c : Dev nD) {S} {f g : S256x256.Idx → Elt F .bf16} (h : ∀ i ∈ S, f i = g i) : (sPts c S f : sProp 𝕄) = sPts c S g :=
  pointsTo_congr h
/-- and for the receive buffer. -/
theorem rPts_congr (c : Dev nD) {S} {f g : S256x256.Idx → Elt F .bf16} (h : ∀ i ∈ S, f i = g i) : (rPts c S f : sProp 𝕄) = rPts c S g :=
  pointsTo_congr h

/-- The whole send buffer is its four chunks, -/
theorem sPts_chunks (c : Dev nD) (f : S256x256.Idx → Elt F .bf16) :
    (sPts c Finset.univ f : sProp 𝕄) = bigSep Finset.univ fun k : Fin 4 => sPts c (rows k) f :=
  Ring.pointsTo_blocks (ℓ := (c : Thread nD τ).loc cc0_scratch0) rows rows_disjoint rows_cover f
/-- and so is the whole receive buffer. -/
theorem rPts_chunks (c : Dev nD) (f : S256x256.Idx → Elt F .bf16) :
    (rPts c Finset.univ f : sProp 𝕄) = bigSep Finset.univ fun k : Fin 4 => rPts c (rows k) f :=
  Ring.pointsTo_blocks (ℓ := (c : Thread nD τ).loc cc0_scratch1) rows rows_disjoint rows_cover f

/-! ## The schedule -/

/-- What a payment counts. -/
def due : Option Slot → ℕ
  | some (.inl _) => 1
  | _ => N

/-- What a payment to device `c` brings. -/
def pay (c : Dev nD) : Option Slot → sProp 𝕄
  | some (.inl _) => iprop(∃ f, rPts (peer c) Finset.univ f)
  | some (.inr (.inl k)) => sPts c (rows k) (xstg m ρ c)
  | some (.inr (.inr k)) => rPts c (rows k) (xstg m ρ (peer c))
  | none => iprop(emp)

instance pay_storable (c : Dev nD) (o : Option Slot) : BI.Storable (upEmb : UEmb _ 𝕄) (pay m ρ c o) := by
  rcases o with _ | _ | _ | _ <;> (dsimp only [pay]; infer_instance)

/-- One round, one payment per cell. -/
def table : Rounds.Schedule (GSem nD τ sig) Unit 𝕄 where
  duties g r := if r = 0 ∧ g.1.2 = .tc ∧ (slotOf g.2).isSome then {()} else ∅
  unitless _ := False
  amount g _ _ := due (slotOf g.2)
  payload g _ _ := pay m ρ g.1.1 (slotOf g.2)
  amount_pos g _ _ _ := by
    unfold due; split
    · exact Nat.one_pos
    · exact N_pos

instance table_payload_storable (g : GSem nD τ sig) (r : ℕ) (d : Unit) : BI.Storable (upEmb : UEmb _ 𝕄) ((table (F := F) m ρ).payload g r d) :=
  pay_storable m ρ g.1.1 (slotOf g.2)

section Entries
variable (c : Dev nD) (s : Slot)

/-- A cell has its one duty in round 0, -/
theorem duties_cell : (table (F := F) m ρ).duties (cell c s) 0 = {()} := by
  dsimp only [table]; exact if_pos ⟨rfl, rfl, by rw [slotOf_csem]; rfl⟩
/-- none later; -/
theorem duties_later (g : GSem nD τ sig) : ∀ r, 1 ≤ r → (table (F := F) m ρ).duties g r = ∅ :=
  fun _ hr => if_neg fun h => Nat.one_le_iff_ne_zero.mp hr h.1
/-- the duty pays what is due there, -/
theorem amount_cell (u : Unit) : (table (F := F) m ρ).amount (cell c s) 0 u = due (some s) := by
  dsimp only [table]; rw [slotOf_csem]
/-- and brings what is to come with it; -/
theorem payload_cell (u : Unit) : (table (F := F) m ρ).payload (cell c s) 0 u = pay m ρ c (some s) := by
  dsimp only [table]; rw [slotOf_csem]
/-- the round expects that one payment, -/
theorem expect_cell : (table (F := F) m ρ).expect (cell c s) 0 = due (some s) := by
  unfold Schedule.expect Schedule.amountOf; rw [duties_cell, Finset.sum_singleton, amount_cell]
/-- and waiting for the whole round brings what it brings. -/
theorem rest_cell : bigSep ((table (F := F) m ρ).duties (cell c s) 0 \ ∅) (fun u => (table (F := F) m ρ).payload (cell c s) 0 u) = pay m ρ c (some s) := by
  rw [Finset.sdiff_empty, duties_cell, bigSep_singleton, payload_cell]

end Entries

/-! ## Debts and levels -/

/-- What device `c` owes for the chunks `S` it has yet to copy. -/
def owedFor (S : Finset (Fin 4)) (c : Dev nD) : CellTallies nD τ sig Unit := ∑ k ∈ S, tallyAt (recvCell k (peer c)) () N

/-- At the start: four copies and the signal. -/
def O₀ (c : Dev nD) : CellTallies nD τ sig Unit := owedFor Finset.univ c + tallyAt (barCell (peer c)) () 1

/-- Copying chunk `k` pays one of the debts. -/
theorem owedFor_erase {S : Finset (Fin 4)} {k : Fin 4} (hk : k ∈ S) (c : Dev nD) :
    owedFor S c = owedFor (S.erase k) c + tallyAt (recvCell k (peer c)) () N :=
  (Finset.sum_erase_add S _ hk).symm

/-- With all four copied no receipt is owed. -/
theorem owedFor_none (c : Dev nD) : owedFor ((((Finset.univ.erase 0).erase 1).erase 2).erase 3) c = 0 := by
  rw [show ((((Finset.univ : Finset (Fin 4)).erase 0).erase 1).erase 2).erase 3 = ∅ from by decide]; exact Finset.sum_empty

/-- A debt for copies is to a receipt cell of the partner's. -/
theorem owedFor_pos {S : Finset (Fin 4)} {c : Dev nD} {g : GSem nD τ sig} {u : Unit} (h : 0 < owedFor S c g u) : ∃ k, g = recvCell k (peer c) := by
  by_contra hn
  have h0 : owedFor S c g u = 0 := by
    unfold owedFor
    rw [Finset.sum_apply, Finsupp.finset_sum_apply]
    exact Finset.sum_eq_zero fun k _ => by rw [tallyAt_apply]; exact if_neg fun h' => hn ⟨k, h'.1⟩
  rw [h0] at h; exact Nat.lt_irrefl 0 h

/-- A debt at the start is to a receipt cell or the barrier of the partner's. -/
theorem O₀_pos {c : Dev nD} {g : GSem nD τ sig} {u : Unit} (h : 0 < O₀ c g u) : (∃ k, g = recvCell k (peer c)) ∨ g = barCell (peer c) := by
  unfold O₀ at h
  rw [Pi.add_apply, Finsupp.add_apply] at h
  rcases Nat.eq_zero_or_pos (owedFor Finset.univ c g u) with h0 | h0
  · right; by_contra hn
    rw [h0, tallyAt_apply, if_neg fun h' => hn h'.1] at h; exact Nat.lt_irrefl 0 h
  · exact .inl (owedFor_pos h0)

/-- Indices in use: one per cell of a TensorCore. -/
def L (g : GSem nD τ sig) : Finset Unit := if g.1.2 = .tc then {()} else ∅
/-- A device waits for the barrier before it has paid the receipts it owes: receipts lie above the barrier, all else below. -/
def lv (g : GSem nD τ sig) (_ : Unit) : ℕ := match slotOf g.2 with
  | some (.inl _) => 1
  | some (.inr (.inr _)) => 2
  | _ => 0

/-- No index is in use off the TensorCores, -/
theorem L_of_ne (g : GSem nD τ sig) (h : g.1.2 ≠ .tc) : L g = ∅ := if_neg h
/-- and one on them. -/
theorem L_tc (c : Dev nD) (sm : SemLoc sig) : L ((c : Thread nD τ), sm) = {()} := if_pos rfl
/-- The barrier's level, -/
theorem lv_bar (c : Dev nD) (u : Unit) : lv (barCell c) u = 1 := rfl
/-- and a receipt's. -/
theorem lv_recv (k : Fin 4) (c : Dev nD) (u : Unit) : lv (recvCell k c) u = 2 := by
  unfold lv; rw [show slotOf (recvCell k c).2 = some (.inr (.inr k)) from slotOf_csem (.inr (.inr k))]

/-- A wait of the staging pipeline is allowed at the start and at the end. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl <;> exact Finset.mem_singleton_self _)
      (fun p hp => by
        rw [Finset.mem_singleton.mp hp]
        have hs : slotOf (SemLoc.dma q : SemLoc sig) = none := if_pos hq
        dsimp only [lv]; rw [hs])
      (fun g u hg => by
        rcases O₀_pos hg with ⟨k, rfl⟩ | rfl
        · rw [lv_recv]; decide
        · rw [lv_bar]; decide)
  · rw [MayWait_zero]; iintro -; iempintro

/-- The wait on the barrier is allowed while the four receipts are owed. -/
theorem mayWait_bar (c : Dev nD) : (levAts L lv : sProp 𝕄) ⊢ MayWait (c : Thread nD τ) (.reg barS) () (owedFor Finset.univ c) :=
  MayOwe.of_cut (L := L) (lev := lv) 1 (fun p hp => by rw [Finset.mem_singleton.mp hp, L_tc]; exact Finset.mem_singleton_self _)
    (fun g u hg => by obtain ⟨k, rfl⟩ := owedFor_pos hg; exact Finset.mem_singleton_self _)
    (fun p hp => by rw [Finset.mem_singleton.mp hp]; exact le_of_eq (lv_bar c ()))
    (fun g u hg => by obtain ⟨k, rfl⟩ := owedFor_pos hg; rw [lv_recv]; decide)

/-! ## What a device holds -/

/-- Known to all: every cell's invariant, and that every cell has reached round 0. -/
def records (K : Dev nD × Slot → ℕ) : sProp 𝕄 :=
  iprop((bigSep Finset.univ fun p : Dev nD × Slot => cellInv ER (table m ρ) (K p) (cell p.1 p.2))
    ∗ bigSep Finset.univ fun p : Dev nD × Slot => reached ER (cell p.1 p.2) 0)

instance records_persistent (K : Dev nD × Slot → ℕ) : BI.Persistent (records m ρ K) := by unfold records; infer_instance

/-- From what all know, one cell's invariant, -/
theorem inv_of (K : Dev nD × Slot → ℕ) (c : Dev nD) (s : Slot) : records m ρ K ⊢ cellInv ER (table m ρ) (K (c, s)) (cell c s) := by
  have h : (bigSep Finset.univ fun p : Dev nD × Slot => (cellInv ER (table m ρ) (K p) (cell p.1 p.2) : sProp 𝕄))
      ⊢ cellInv ER (table m ρ) (K (c, s)) (cell c s) := bigSep_elim (Finset.mem_univ (c, s))
  unfold records; iintro ⟨H, -⟩; iapply h; iexact H
/-- and that the cell has reached round 0. -/
theorem reached_of (K : Dev nD × Slot → ℕ) (c : Dev nD) (s : Slot) : records m ρ K ⊢ reached ER (cell c s) 0 := by
  have h : (bigSep Finset.univ fun p : Dev nD × Slot => (reached ER (cell p.1 p.2) 0 : sProp 𝕄)) ⊢ reached ER (cell c s) 0 :=
    bigSep_elim (Finset.mem_univ (c, s))
  unfold records; iintro ⟨-, H⟩; iapply h; iexact H

/-- Device `c`'s place in the rounds of its nine cells. -/
def places (c : Dev nD) : sProp 𝕄 := bigSep Finset.univ fun s : Slot => atPos ER (cell c s) 0 ∅ 0
/-- The payments device `c` is to make: its partner's barrier; for each chunk, its own send cell and its partner's receipt cell. -/
def tokens (c : Dev nD) : sProp 𝕄 :=
  iprop(dutyTok ER (barCell (peer c)) 0 ()
    ∗ (bigSep Finset.univ fun k : Fin 4 => dutyTok ER (sendCell k c) 0 ())
    ∗ bigSep Finset.univ fun k : Fin 4 => dutyTok ER (recvCell k (peer c)) 0 ())
/-- The credit it starts with: what it is to be paid on its barrier and receipt cells. -/
def credits (c : Dev nD) : sProp 𝕄 :=
  iprop(cred (tallyAt (barCell c) () 1) ∗ bigSep Finset.univ fun k : Fin 4 => cred (tallyAt (recvCell k c) () N))

/-- What the protocol gives device `c` to run the kernel with. -/
def start (c : Dev nD) : sProp 𝕄 :=
  iprop((∃ K, records m ρ K ∗ places c ∗ tokens c) ∗ credits c ∗ levAts L lv)

/-- Before the body: that, and the two scratch buffers. -/
def Φ₀ (c : Dev nD) : sProp 𝕄 :=
  iprop(start m ρ c ∗ (∃ f, sPts c Finset.univ f) ∗ ∃ f, rPts c Finset.univ f)
/-- After it: the two scratch buffers and every cell's counter at zero. -/
def Φ₁ (c : Dev nD) : sProp 𝕄 :=
  iprop((∃ f, sPts c Finset.univ f) ∗ (∃ f, rPts c Finset.univ f) ∗ bigSep Finset.univ fun s : Slot => semVal (cell c s) 0)

/-! ## The region's proof data -/

/-- The region's grid has one point, -/
theorem cfg0_N : cfg0.N = 1 := by decide
/-- this one. -/
def t₀ : Fin cfg0.N := ⟨0, by rw [cfg0_N]; decide⟩
theorem only_t₀ (t : Fin cfg0.N) : t = t₀ :=
  have : Subsingleton (Fin cfg0.N) := by rw [cfg0_N]; infer_instance
  Subsingleton.elim t t₀

/-- The region runs its body once: `x` stays as it is, the output becomes `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- Over the nine parts: the barrier's, the four sends', the four receipts'. -/
theorem bigSep_slot (Φ : Slot → sProp 𝕄) :
    bigSep Finset.univ Φ = iprop(Φ (.inl ()) ∗ (bigSep Finset.univ fun k : Fin 4 => Φ (.inr (.inl k))) ∗ bigSep Finset.univ fun k : Fin 4 => Φ (.inr (.inr k))) := by
  rw [bigSep_univ_sum, bigSep_univ_sum, bigSep_univ_of_subsingleton ()]; rfl

end Cert.Swap

end
-- ==== Proof.Swap.Steps.lean ====
/-
# The steps the kernel takes for one chunk

Four steps, each stated for any of the four chunks: fill the chunk of the send buffer; start
the copy to the partner; wait for the partner's copy, or for the end of one's own; add and store.
-/
module

public import proofs.«01_k».proof.Proof.Swap.Schedule

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No loop's variant is needed. -/
abbrev 𝒱₀ : Variants := Variants.none

/-- Device `c`'s staged block, held whole. -/
def xPts (c : Dev nD) (f : S256x256.Idx → Elt F .bf16) : sProp 𝕄 := ((c : Thread nD τ).loc cc0_stg0_0) ↦{fullShare} f
/-- Device `c`'s staged result, held whole. -/
def oPts (c : Dev nD) (f : S256x256.Idx → Elt F .f32) : sProp 𝕄 := ((c : Thread nD τ).loc cc0_stg1_0) ↦{fullShare} f

/-- In a whole buffer the elements under a set of indices are that set. -/
theorem setOn_whole (b : Ref sig .tc) (S : Finset b.ty.shape.Idx) : (View.whole b : View sig .tc _ _ _).setOn S = S := by
  ext i
  exact ⟨fun h => by obtain ⟨j, hj, rfl⟩ := Finset.mem_map.mp h; exact hj, fun h => Finset.mem_map.mpr ⟨i, h, rfl⟩⟩

/-- Fill chunk `k` of the send buffer from `x`: two loads, the second's value unused, and a store. -/
theorem wp_fill {α : Type} {Q : α → sProp 𝕄} (c : Dev nD) (k : Fin 4) (f g : S256x256.Idx → Elt F .bf16)
    (p : Vec F S64x256 .bf16 → FVec F S64x256 .bf16) (hp : ∀ v, p v = v)
    {hl₁ : xM.view.LoadsAt (chunk k).toLoadRect} {hl₂ : sM.view.LoadsAt (chunk k).toLoadRect}
    {hx : (sM.access (chunk k)).Stores Finset.univ} {hm : (Finset.univ : Finset (chunk k).shape.Idx) = Finset.univ ∨ ∀ a, (chunk k).stride a = 1}
    {C : PUnit → Prog (TpuEff nD τ sig (Elt F) Λ₀ .tc) α} :
    iprop(xPts c f ∗ sPts c (rows k) g)
      ⊢ iprop(((xPts c f ∗ sPts c (rows k) f) -∗ wp frame (wpE (defs₀ (F := F)) 𝒱₀ (c : Thread nD τ) none) Set.univ (C ⟨⟩) Q)
        -∗ wp frame (wpE (defs₀ (F := F)) 𝒱₀ (c : Thread nD τ) none) Set.univ
            (.op (.load xM (chunk k).toLoadRect hl₁) fun v => .op (.load sM (chunk k).toLoadRect hl₂) fun _ =>
              .op (.store sM (chunk k) (p v) Finset.univ hx hm) C) Q) := by
  iintro ⟨Hx, Hs⟩ HK
  unfold xPts
  iapply (wp_load 𝒱₀ (c : Thread nD τ) none Set.univ (m := xM) (Finset.subset_univ _)) $$ Hx; iintro Hx
  rw [hp]
  unfold sPts
  iapply (wp_load 𝒱₀ (c : Thread nD τ) none Set.univ (m := sM) (r := (chunk k).toLoadRect) (S := rows k)
    (setOn_whole _ _).le) $$ Hs; iintro Hs
  iapply (wp_store 𝒱₀ (c : Thread nD τ) none Set.univ (m := sM) (r := chunk k) (Mk := Finset.univ) (S := rows k)
    (View.set_slice_whole _ _).le) $$ Hs; iintro Hs
  iapply HK
  isplitl [Hx]; · iexact Hx
  have e := Entails.of_eq (sPts_congr (F := F) c (staged k g f))
  unfold sPts at e
  iapply e; iexact Hs

/-- Start the copy of chunk `k` to the partner, to whom one debt the less is owed. -/
theorem wp_copy {α : Type} {Q : α → sProp 𝕄} (K : Dev nD × Slot → ℕ) (c n : Dev nD) (hn : n = peer c) (k : Fin 4) {S : Finset (Fin 4)} (hk : k ∈ S)
    {hsc : (rC k : Memref sig (Dev.tc n : Thread nD τ).2.kind .vmem S64x256 .bf16).view.ref.isScScratch = false}
    {hsrc : (sC k).view.WordExact} {hdst : (rC k).view.WordExact}
    {hsem : DmaTarget.Typed .vmem (.dma (recvS k)) (.remote (Dev.tc n : Thread nD τ) (rC k) (.dma (sendS k)) hsc)}
    {C : PUnit → Prog (TpuEff nD τ sig (Elt F) Λ₀ .tc) α} (g : S256x256.Idx → Elt F .bf16) (W : Waits sig Unit) :
    iprop(records m ρ K ∗ sPts c (rows k) (xstg m ρ c) ∗ rPts (peer c) (rows k) g ∗ owes (c : Thread nD τ) (owedFor S c) W
        ∗ dutyTok ER (sendCell k c) 0 () ∗ dutyTok ER (recvCell k (peer c)) 0 ())
      ⊢ iprop(((cred (tallyAt (sendCell k c) () N) ∗ owes (c : Thread nD τ) (owedFor (S.erase k) c) W)
            -∗ wp frame (wpE (defs₀ (F := F)) 𝒱₀ (c : Thread nD τ) none) Set.univ (C ⟨⟩) Q)
          -∗ wp frame (wpE (defs₀ (F := F)) 𝒱₀ (c : Thread nD τ) none) Set.univ
              (.op (.enqueueDma (sC k) (.remote (Dev.tc n : Thread nD τ) (rC k) (.dma (sendS k)) hsc) (.dma (recvS k)) hsrc hdst hsem) C) Q) := by
  subst hn
  iintro ⟨#HR, Hs, Hr, HO, Ht₁, Ht₂⟩ HK
  iapply (Rounds.wp_send_pointsTo (Q := Q) 𝒱₀ ER (table m ρ) (c : Thread nD τ) none (src := sC k) (dst := rC k) (hsc := hsc) (hsrc := hsrc) (hdst := hdst)
    (hsem := hsem) (k := C) (c' := (peer c : Thread nD τ)) (q := fullShare)
    (κ₁ := K (c, .inr (.inl k))) (κ₂ := K (peer c, .inr (.inr k))) (r₁ := 0) (r₂ := 0) (d₁ := ()) (d₂ := ()) (fs := xstg m ρ c) (fd := g)
    (sS := .dma (sendS k)) (sem := .dma (recvS k))
    (by rw [duties_cell m ρ c (.inr (.inl k))]; exact Finset.mem_singleton_self _) (by rw [duties_cell m ρ (peer c) (.inr (.inr k))]; exact Finset.mem_singleton_self _)
    () () N (credit_r k) (amount_cell m ρ c (.inr (.inl k)) ()) (amount_cell m ρ (peer c) (.inr (.inr k)) ())
    (owedFor (S.erase k) c) (owedFor_erase hk c) (W := W) (Es := Set.univ)
    (by rw [payload_cell m ρ c (.inr (.inl k)), sC_set]; exact BI.Entails.refl _)
    (by
      rw [payload_cell m ρ (peer c) (.inr (.inr k)), rC_set]; dsimp only [pay]; rw [peer_peer]
      exact Entails.of_eq (rPts_congr (F := F) (peer c) (copied k g (xstg m ρ c))))) $$ [Hs Hr HO Ht₁ Ht₂]
  · isplitr; · iapply (inv_of m ρ K c (.inr (.inl k))); iexact HR
    isplitr; · iapply (inv_of m ρ K (peer c) (.inr (.inr k))); iexact HR
    isplitl [Hs]; · rw [sC_set]; unfold sPts; iexact Hs
    isplitl [Hr]; · rw [rC_set]; unfold rPts; iexact Hr
    isplitl [HO]; · iexact HO
    isplitl [Ht₁]; · iexact Ht₁
    isplitr; · iapply (reached_of m ρ K c (.inr (.inl k))); iexact HR
    isplitl [Ht₂]; · iexact Ht₂
    iapply (reached_of m ρ K (peer c) (.inr (.inr k))); iexact HR
  iexact HK

/-- Wait, owing nothing, for the one payment of a send or receipt cell: what it brings is the device's. -/
theorem wp_await {α : Type} {Q : α → sProp 𝕄} (K : Dev nD × Slot → ℕ) (c : Dev nD) (j : Fin 4 ⊕ Fin 4) {q : DmaSem sig} (hq : osem j = .dma q)
    {src dst : Memref sig .tc .vmem S64x256 .bf16} (hN : dst.view.dmaCredit = N)
    {hsrc : src.view.WordExact} {hdst : dst.view.WordExact} {C : PUnit → Prog (TpuEff nD τ sig (Elt F) Λ₀ .tc) α} (W : Waits sig Unit) :
    iprop(records m ρ K ∗ cred (tallyAt (cell c (.inr j)) () N) ∗ owes (c : Thread nD τ) 0 W ∗ atPos ER (cell c (.inr j)) 0 ∅ 0)
      ⊢ iprop((((∃ W', owes (c : Thread nD τ) 0 W') ∗ atPos ER (cell c (.inr j)) (0 + 1) ∅ 0 ∗ pay m ρ c (some (.inr j)))
            -∗ wp frame (wpE (defs₀ (F := F)) 𝒱₀ (c : Thread nD τ) none) Set.univ (C ⟨⟩) Q)
          -∗ wp frame (wpE (defs₀ (F := F)) 𝒱₀ (c : Thread nD τ) none) Set.univ (.op (.waitDma2 q src dst hsrc hdst) C) Q) := by
  iintro ⟨#HR, Hc, HO, Hat⟩ HK
  have hcell : cell c (.inr j) = ((c : Thread nD τ), .dma q) := congrArg (fun x => (((c : Thread nD τ), x) : GSem nD τ sig)) hq
  have hex : (table (F := F) m ρ).expect ((c : Thread nD τ), .dma q) 0 = N := by
    rw [← hcell, expect_cell]; rcases j with _ | _ <;> rfl
  rw [hcell]
  iapply (Rounds.wp_wait_rest_token 𝒱₀ ER (table m ρ) (c : Thread nD τ) none (κ := K (c, .inr j))
      (wpE_waitDma2_eq 𝒱₀ (c : Thread nD τ) none Set.univ) (Set.mem_univ _) () (O := 0) (W := W) (R := 0) (m := 0) (T := ∅)
      (by rw [Nat.zero_add, hex, hN])) $$ [Hc HO Hat]
  · isplitr; · rw [← hcell]; iapply (inv_of m ρ K c (.inr j)); iexact HR
    isplitl [Hc]; · rw [hN]; iexact Hc
    isplitl [HO]; · iexact HO
    isplitr; · rw [MayWait_zero]; iempintro
    iexact Hat
  iintro ⟨HO, Hat, -, Hpay⟩
  iapply HK
  isplitl [HO]; · iexists _; iexact HO
  isplitl [Hat]; · iexact Hat
  iapply (Entails.of_eq (rest_cell m ρ c (.inr j))); rw [hcell]; iexact Hpay

/-- Add chunk `k` of `x` and of what arrived, and store it: three loads, the last's value unused, and a store. -/
theorem wp_add {α : Type} {Q : α → sProp 𝕄} (c : Dev nD) (k : Fin 4) (f g : S256x256.Idx → Elt F .bf16) (o : S256x256.Idx → Elt F .f32)
    (p : Vec F S64x256 .bf16 → Vec F S64x256 .bf16 → FVec F S64x256 .f32) (hp : ∀ v w, p v w = paySum v w)
    {hl₁ : xM.view.LoadsAt (chunk k).toLoadRect} {hl₂ : rM.view.LoadsAt (chunk k).toLoadRect} {hl₃ : oM.view.LoadsAt (chunk k).toLoadRect}
    {hx : (oM.access (chunk k)).Stores Finset.univ} {hm : (Finset.univ : Finset (chunk k).shape.Idx) = Finset.univ ∨ ∀ a, (chunk k).stride a = 1}
    {C : PUnit → Prog (TpuEff nD τ sig (Elt F) Λ₀ .tc) α} :
    iprop(xPts c f ∗ rPts c (rows k) g ∗ oPts c o)
      ⊢ iprop(((xPts c f ∗ rPts c (rows k) g ∗ oPts c ((rows k).piecewise (sumOf f g) o))
          -∗ wp frame (wpE (defs₀ (F := F)) 𝒱₀ (c : Thread nD τ) none) Set.univ (C ⟨⟩) Q)
        -∗ wp frame (wpE (defs₀ (F := F)) 𝒱₀ (c : Thread nD τ) none) Set.univ
            (.op (.load xM (chunk k).toLoadRect hl₁) fun v => .op (.load rM (chunk k).toLoadRect hl₂) fun w => .op (.load oM (chunk k).toLoadRect hl₃) fun _ =>
              .op (.store oM (chunk k) (p v w) Finset.univ hx hm) C) Q) := by
  iintro ⟨Hx, Hr, Ho⟩ HK
  unfold xPts rPts oPts
  iapply (wp_load 𝒱₀ (c : Thread nD τ) none Set.univ (m := xM) (Finset.subset_univ _)) $$ Hx; iintro Hx
  iapply (wp_load 𝒱₀ (c : Thread nD τ) none Set.univ (m := rM) (r := (chunk k).toLoadRect) (S := rows k)
    (setOn_whole _ _).le) $$ Hr; iintro Hr
  iapply (wp_load 𝒱₀ (c : Thread nD τ) none Set.univ (m := oM) (Finset.subset_univ _)) $$ Ho; iintro Ho
  iapply (wp_store 𝒱₀ (c : Thread nD τ) none Set.univ (m := oM) (r := chunk k) (Mk := Finset.univ) (Finset.subset_univ _)) $$ Ho; iintro Ho
  rw [hp, summed]
  iapply HK
  isplitl [Hx]; · iexact Hx
  isplitl [Hr]; · iexact Hr
  iexact Ho

end Cert.Swap

end
-- ==== Proof.Swap.Body.lean ====
/-
# The kernel's body

The body on one device, from what it holds before to what it holds after: it signals its
partner and waits for the partner's signal; fills and copies the four chunks; awaits and
adds the partner's four chunks; takes its send buffer back.
-/
module

public import proofs.«01_k».proof.Proof.Swap.Steps

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-- What the semaphore of an own copy brings, -/
theorem pay_send (c : Dev nD) (k : Fin 4) : pay m ρ c (some (.inr (.inl k))) = sPts c (rows k) (xstg m ρ c) := rfl
/-- and what that of the partner's copy brings. -/
theorem pay_recv (c : Dev nD) (k : Fin 4) : pay m ρ c (some (.inr (.inr k))) = rPts c (rows k) (xstg m ρ (peer c)) := rfl

/-- A cell whose one payment has been taken closes, its counter at zero. -/
theorem close (K : Dev nD × Slot → ℕ) (c : Dev nD) (s : Slot) :
    iprop(records m ρ K ∗ atPos ER (cell c s) (0 + 1) ∅ 0) ⊢ (|={Set.univ}=> semVal (cell c s) 0 : sProp 𝕄) := by
  iintro ⟨#HR, Hat⟩
  iapply (Rounds.cell_close ER (table m ρ) (Set.mem_univ (K (c, s))) (fun h => h) (R := 0 + 1) (duties_later m ρ (cell c s)))
  isplitr; · iapply (inv_of m ρ K c s); iexact HR
  iexact Hat

/-- All nine cells of a device close at zero. -/
theorem close_all (K : Dev nD × Slot → ℕ) (c : Dev nD) :
    iprop(records m ρ K ∗ bigSep Finset.univ fun s : Slot => atPos ER (cell c s) (0 + 1) ∅ 0)
      ⊢ (|={Set.univ}=> bigSep Finset.univ fun s : Slot => semVal (cell c s) 0 : sProp 𝕄) :=
  (sep_mono_left (BI.bigSep_of_persistent Finset.univ (records m ρ K))).trans
    (by rw [← bigSep_sep']; exact (bigSep_mono fun s _ => close m ρ K c s).trans (bigSep_fupd _ _))

/-- What device `c` runs the body with: its part of the protocol, the two scratch buffers, what it owes, its staged block
of `x`, and the staged result, whatever it holds. -/
def before (K : Dev nD × Slot → ℕ) (c : Dev nD) (W : Waits sig Unit) : sProp 𝕄 :=
  iprop((records m ρ K ∗ places c ∗ tokens c) ∗ (credits c ∗ levAts L lv) ∗ ((∃ f, sPts c Finset.univ f) ∗ ∃ f, rPts c Finset.univ f)
    ∗ owes (c : Thread nD τ) (O₀ c) W ∗ xPts c (xstg m ρ c) ∗ ∃ o, oPts c o)
/-- What it ends with: scratch and counters back, nothing owed, the staged result at the sum. -/
def after (c : Dev nD) : sProp 𝕄 :=
  iprop(Φ₁ c ∗ (∃ W, owes (c : Thread nD τ) 0 W) ∗ xPts c (xstg m ρ c) ∗ oPts c (outAt m ρ c))

set_option maxRecDepth 65536 in
set_option maxHeartbeats 1600000 in
/-- The body, run from what a device holds before, ends with what it is to hold after. -/
theorem sound_body (K : Dev nD × Slot → ℕ) (c : Dev nD) (W : Waits sig Unit) (Kt : PUnit → sProp 𝕄) :
    iprop(before m ρ K c W ∗ (after m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  simp only [dev1_eq c, dev2_eq c, dev3_eq c, dev4_eq c, dev5_eq c]
  unfold before places tokens credits
  simp only [bigSep_slot, Ring.bigSep_fin4]
  iintro ⟨⟨⟨#HR, ⟨HatB, ⟨HaS0, HaS1, HaS2, HaS3⟩, HaR0, HaR1, HaR2, HaR3⟩, HtB, ⟨HtS0, HtS1, HtS2, HtS3⟩, HtR0, HtR1, HtR2, HtR3⟩,
      ⟨⟨HcB, HcR0, HcR1, HcR2, HcR3⟩, #Hlev⟩, ⟨⟨%fs, Hs⟩, ⟨%fr, Hr⟩⟩, HO, Hx, ⟨%g1, Hout⟩⟩, Hk⟩
  -- the signal: the partner gets the receive buffer
  iapply (Rounds.wp_signal 𝒱₀ ER (table m ρ) (c : Thread nD τ) none (dst := (peer c : Thread nD τ)) (κ := K (peer c, .inl ()))
      (by rw [duties_cell m ρ (peer c) (.inl ())]; exact Finset.mem_singleton_self _) ((amount_cell m ρ (peer c) (.inl ()) ()).trans (by decide)) () (owedFor Finset.univ c) rfl)
    $$ [HO HtB Hr]
  · isplitr; · iapply (inv_of m ρ K (peer c) (.inl ())); iexact HR
    isplitl [HO]; · iexact HO
    isplitl [HtB]; · iexact HtB
    isplitl [Hr]
    · rw [payload_cell m ρ (peer c) (.inl ())]; dsimp only [pay]; rw [peer_peer]
      iexists fr; iexact Hr
    · iapply (reached_of m ρ K (peer c) (.inl ())); iexact HR
  iintro HO
  -- the wait: the partner's receive buffer comes
  iapply (Rounds.wp_wait_rest_token 𝒱₀ ER (table m ρ) (c : Thread nD τ) none (κ := K (c, .inl ()))
      (wpE_semWait_eq 𝒱₀ (c : Thread nD τ) none Set.univ) (Set.mem_univ _) () (O := owedFor Finset.univ c) (W := W) (R := 0) (m := 0) (T := ∅)
      (by rw [expect_cell m ρ c (.inl ())]; decide)) $$ [HcB HO HatB]
  · isplitr; · iapply (inv_of m ρ K c (.inl ())); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_cell m ρ c (.inl ()))) $$ Hpay
  dsimp only [pay]
  icases Hp with ⟨%fn, Hn⟩
  ihave Hn' := (Entails.of_eq ((rPts_chunks (F := F) (peer c) fn).trans (Ring.bigSep_fin4 _))) $$ Hn
  icases Hn' with ⟨Hn0, Hn1, Hn2, Hn3⟩
  ihave Hs' := (Entails.of_eq ((sPts_chunks (F := F) c fs).trans (Ring.bigSep_fin4 _))) $$ Hs
  icases Hs' with ⟨Hs0, Hs1, Hs2, Hs3⟩
  -- fill and copy the four chunks
  iapply (wp_fill c 0 (xstg m ρ c) fs k0_pay2 pay2_eq) $$ [Hx Hs0]
  · isplitl [Hx]; · iexact Hx
    iexact Hs0
  iintro ⟨Hx, Hs0⟩
  iapply (wp_copy m ρ K c _ (dev2_eq c) 0 (S := Finset.univ) (by decide) fn _) $$ [Hs0 Hn0 HO HtS0 HtR0]
  · isplitr; · iexact HR
    isplitl [Hs0]; · iexact Hs0
    isplitl [Hn0]; · iexact Hn0
    isplitl [HO]; · iexact HO
    isplitl [HtS0] <;> iassumption
  iintro ⟨HcS0, HO⟩
  iapply (wp_fill c 1 (xstg m ρ c) fs k0_pay3 pay3_eq) $$ [Hx Hs1]
  · isplitl [Hx] <;> iassumption
  iintro ⟨Hx, Hs1⟩
  iapply (wp_copy m ρ K c _ (dev3_eq c) 1 (S := Finset.univ.erase 0) (by decide) fn _) $$ [Hs1 Hn1 HO HtS1 HtR1]
  · isplitr; · iexact HR
    isplitl [Hs1]; · iexact Hs1
    isplitl [Hn1]; · iexact Hn1
    isplitl [HO]; · iexact HO
    isplitl [HtS1] <;> iassumption
  iintro ⟨HcS1, HO⟩
  iapply (wp_fill c 2 (xstg m ρ c) fs k0_pay4 pay4_eq) $$ [Hx Hs2]
  · isplitl [Hx] <;> iassumption
  iintro ⟨Hx, Hs2⟩
  iapply (wp_copy m ρ K c _ (dev4_eq c) 2 (S := (Finset.univ.erase 0).erase 1) (by decide) fn _) $$ [Hs2 Hn2 HO HtS2 HtR2]
  · isplitr; · iexact HR
    isplitl [Hs2]; · iexact Hs2
    isplitl [Hn2]; · iexact Hn2
    isplitl [HO]; · iexact HO
    isplitl [HtS2] <;> iassumption
  iintro ⟨HcS2, HO⟩
  iapply (wp_fill c 3 (xstg m ρ c) fs k0_pay5 pay5_eq) $$ [Hx Hs3]
  · isplitl [Hx] <;> iassumption
  iintro ⟨Hx, Hs3⟩
  iapply (wp_copy m ρ K c _ (dev5_eq c) 3 (S := ((Finset.univ.erase 0).erase 1).erase 2) (by decide) fn _) $$ [Hs3 Hn3 HO HtS3 HtR3]
  · isplitr; · iexact HR
    isplitl [Hs3]; · iexact Hs3
    isplitl [Hn3]; · iexact Hn3
    isplitl [HO]; · iexact HO
    isplitl [HtS3] <;> iassumption
  iintro ⟨HcS3, HO⟩
  rw [owedFor_none]
  -- await and add the partner's four chunks
  iapply (wp_await m ρ K c (.inr 0) (q := recvS 0) rfl (credit_r 0) _) $$ [HcR0 HO HaR0]
  · isplitr; · iexact HR
    isplitl [HcR0]; · iexact HcR0
    isplitl [HO] <;> iassumption
  iintro ⟨⟨%W0, HO⟩, HaR0, Hp⟩
  ihave Hr0 := (Entails.of_eq (pay_recv m ρ c 0)) $$ Hp
  iapply (wp_add c 0 (xstg m ρ c) (xstg m ρ (peer c)) g1 k0_pay6 pay6_eq) $$ [Hx Hr0 Hout]
  · isplitl [Hx]; · iexact Hx
    isplitl [Hr0]; · iexact Hr0
    iexact Hout
  iintro ⟨Hx, Hr0, Hout⟩
  iapply (wp_await m ρ K c (.inr 1) (q := recvS 1) rfl (credit_r 1) _) $$ [HcR1 HO HaR1]
  · isplitr; · iexact HR
    isplitl [HcR1]; · iexact HcR1
    isplitl [HO] <;> iassumption
  iintro ⟨⟨%W1, HO⟩, HaR1, Hp⟩
  ihave Hr1 := (Entails.of_eq (pay_recv m ρ c 1)) $$ Hp
  iapply (wp_add c 1 (xstg m ρ c) (xstg m ρ (peer c)) _ k0_pay7 pay7_eq) $$ [Hx Hr1 Hout]
  · isplitl [Hx]; · iexact Hx
    isplitl [Hr1] <;> iassumption
  iintro ⟨Hx, Hr1, Hout⟩
  iapply (wp_await m ρ K c (.inr 2) (q := recvS 2) rfl (credit_r 2) _) $$ [HcR2 HO HaR2]
  · isplitr; · iexact HR
    isplitl [HcR2]; · iexact HcR2
    isplitl [HO] <;> iassumption
  iintro ⟨⟨%W2, HO⟩, HaR2, Hp⟩
  ihave Hr2 := (Entails.of_eq (pay_recv m ρ c 2)) $$ Hp
  iapply (wp_add c 2 (xstg m ρ c) (xstg m ρ (peer c)) _ k0_pay8 pay8_eq) $$ [Hx Hr2 Hout]
  · isplitl [Hx]; · iexact Hx
    isplitl [Hr2] <;> iassumption
  iintro ⟨Hx, Hr2, Hout⟩
  iapply (wp_await m ρ K c (.inr 3) (q := recvS 3) rfl (credit_r 3) _) $$ [HcR3 HO HaR3]
  · isplitr; · iexact HR
    isplitl [HcR3]; · iexact HcR3
    isplitl [HO] <;> iassumption
  iintro ⟨⟨%W3, HO⟩, HaR3, Hp⟩
  ihave Hr3 := (Entails.of_eq (pay_recv m ρ c 3)) $$ Hp
  iapply (wp_add c 3 (xstg m ρ c) (xstg m ρ (peer c)) _ (fun v w => k0_pay1 (k0_pay9 v) (k0_pay10 w)) pay1_eq) $$ [Hx Hr3 Hout]
  · isplitl [Hx]; · iexact Hx
    isplitl [Hr3] <;> iassumption
  iintro ⟨Hx, Hr3, Hout⟩
  rw [summed_all]
  -- take the send buffer back
  iapply (wp_await m ρ K c (.inl 0) (q := sendS 0) rfl (credit_s 0) _) $$ [HcS0 HO HaS0]
  · isplitr; · iexact HR
    isplitl [HcS0]; · iexact HcS0
    isplitl [HO] <;> iassumption
  iintro ⟨⟨%W4, HO⟩, HaS0, Hp⟩
  ihave Hs0 := (Entails.of_eq (pay_send m ρ c 0)) $$ Hp
  iapply (wp_await m ρ K c (.inl 1) (q := sendS 1) rfl (credit_s 1) _) $$ [HcS1 HO HaS1]
  · isplitr; · iexact HR
    isplitl [HcS1]; · iexact HcS1
    isplitl [HO] <;> iassumption
  iintro ⟨⟨%W5, HO⟩, HaS1, Hp⟩
  ihave Hs1 := (Entails.of_eq (pay_send m ρ c 1)) $$ Hp
  iapply (wp_await m ρ K c (.inl 2) (q := sendS 2) rfl (credit_s 2) _) $$ [HcS2 HO HaS2]
  · isplitr; · iexact HR
    isplitl [HcS2]; · iexact HcS2
    isplitl [HO] <;> iassumption
  iintro ⟨⟨%W6, HO⟩, HaS2, Hp⟩
  ihave Hs2 := (Entails.of_eq (pay_send m ρ c 2)) $$ Hp
  iapply (wp_await m ρ K c (.inl 3) (q := sendS 3) rfl (credit_s 3) _) $$ [HcS3 HO HaS3]
  · isplitr; · iexact HR
    isplitl [HcS3]; · iexact HcS3
    isplitl [HO] <;> iassumption
  iintro ⟨⟨%W7, HO⟩, HaS3, Hp⟩
  ihave Hs3 := (Entails.of_eq (pay_send m ρ c 3)) $$ Hp
  rw [wp_ret]
  imod (close_all m ρ K c) $$ [HatB HaS0 HaS1 HaS2 HaS3 HaR0 HaR1 HaR2 HaR3] with Hz
  · isplitr; · iexact HR
    rw [bigSep_slot, Ring.bigSep_fin4, Ring.bigSep_fin4]
    isplitl [HatB]; · iexact HatB
    isplitl [HaS0 HaS1 HaS2 HaS3]
    · isplitl [HaS0]; · iexact HaS0
      isplitl [HaS1]; · iexact HaS1
      isplitl [HaS2] <;> iassumption
    isplitl [HaR0]; · iexact HaR0
    isplitl [HaR1]; · iexact HaR1
    isplitl [HaR2] <;> iassumption
  imodintro
  iapply Hk
  unfold after Φ₁
  isplitl [Hs0 Hs1 Hs2 Hs3 Hr0 Hr1 Hr2 Hr3 Hz]
  · isplitl [Hs0 Hs1 Hs2 Hs3]
    · iexists xstg m ρ c
      rw [sPts_chunks, Ring.bigSep_fin4]
      isplitl [Hs0]; · iexact Hs0
      isplitl [Hs1]; · iexact Hs1
      isplitl [Hs2] <;> iassumption
    isplitl [Hr0 Hr1 Hr2 Hr3]
    · iexists xstg m ρ (peer c)
      rw [rPts_chunks, Ring.bigSep_fin4]
      isplitl [Hr0]; · iexact Hr0
      isplitl [Hr1]; · iexact Hr1
      isplitl [Hr2] <;> iassumption
    iexact Hz
  isplitl [HO]; · iexists W7; iexact HO
  isplitl [Hx]; · iexact Hx
  iexact Hout

/-- What is staged of `x` when the body runs. -/
theorem staged_x (c : Dev nD) (d) : (dats m ρ 0 c).before (0 : Fin 2) t₀ d = xstg m ρ c := by
  unfold Dat.before; rw [if_pos (by rfl)]; rfl

set_option maxRecDepth 4000 in
/-- The region's obligation for its one run of the body, on every device. -/
theorem body_obligation (c : Dev nD) : BodyObligation (dats (F := F) m ρ 0 c) (defs₀ (F := F)) 𝒱₀ () Set.univ := fun t => by
  rw [only_t₀ t, bigSep_W0, bigSep_W0]
  show iprop(Φ₀ m ρ c ∗ (dats m ρ 0 c).owesAt () t₀.castSucc
      ∗ (∃ d, owns (c : Thread nD τ) (Memref.whole cc0_stg0_0) fullShare ((dats m ρ 0 c).before (0 : Fin 2) t₀ d))
      ∗ (∃ d, owns (c : Thread nD τ) (Memref.whole cc0_stg1_0) fullShare ((dats m ρ 0 c).before (1 : Fin 2) t₀ d)))
    ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _) cc0_scratch2 cc0_scratch3)
      (fun _ => iprop(Φ₁ c ∗ (dats m ρ 0 c).owesAt () t₀.succ
        ∗ owns (c : Thread nD τ) (Memref.whole cc0_stg0_0) fullShare (xstg m ρ c) ∗ owns (c : Thread nD τ) (Memref.whole cc0_stg1_0) fullShare (outAt m ρ c)))
  simp only [owns_whole, staged_x]
  unfold Φ₀ start Dat.owesAt Pipeline.owesWithin
  iintro ⟨⟨⟨⟨%K, Hg⟩, Hc⟩, Hbuf⟩, ⟨%W, -, HO⟩, ⟨%d, Hx⟩, ⟨%d', Ho⟩⟩
  iapply (sound_body m ρ K c W _)
  isplitl
  · unfold before xPts oPts
    isplitl [Hg]; · iexact Hg
    isplitl [Hc]; · iexact Hc
    isplitl [Hbuf]; · iexact Hbuf
    isplitl [HO]; · iexact HO
    isplitl [Hx]; · iexact Hx
    iexists _; iexact Ho
  · unfold after xPts oPts
    iintro ⟨HΦ, ⟨%W', HO⟩, Hx, Ho⟩
    isplitl [HΦ]; · iexact HΦ
    isplitl [HO]
    · iexists W'
      isplitr; · ipureintro; exact fun _ _ => .inl trivial
      iexact HO
    isplitl [Hx] <;> iassumption

end Cert.Swap

end
-- ==== Proof.Swap.Launch.lean ====
/-
# The launch

From any memory with every counter at zero, `@main` run on every device ends: each device's
result array holds its block plus its partner's, `x` is as it was, and every counter is zero
again.
-/
module

public import proofs.«01_k».proof.Proof.Swap.Body
public import Idealize.ShloMosaic.Lib.Pipeline.CollectiveSegs

@[expose] public section

noncomputable section

namespace Cert.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state the launch starts from -/

/-- Every device's nine cells, -/
def allCells : Finset (GSem nD τ sig) :=
  Finset.univ.map ⟨fun p : Dev nD × Slot => cell p.1 p.2, fun _ _ h => Prod.ext (cell_inj h).1 (cell_inj h).2⟩
/-- and the one payment of each. -/
def allDues : Finset (GSem nD τ sig × ℕ × Unit) :=
  Finset.univ.map ⟨fun p : Dev nD × Slot => (cell p.1 p.2, 0, ()), fun _ _ h =>
    Prod.ext (cell_inj (congrArg Prod.fst h)).1 (cell_inj (congrArg Prod.fst h)).2⟩

/-- The initial ghost state: the staging pipeline's, and this protocol's cells with their payments. -/
def u₀ : UU := (initOf (Pipeline.cells cfgs cellOf_inj) (Pipeline.launchToks cfgs cellOf_inj), initOf allCells allDues)

/-- Over a family of the cells: over the devices, and on each over its nine parts. -/
theorem bigSep_cells (Φ : GSem nD τ sig → sProp 𝕄) :
    bigSep allCells Φ = bigSep Finset.univ fun c : Dev nD => bigSep Finset.univ fun s : Slot => Φ (cell c s) := by
  unfold allCells; rw [bigSep_map, bigSep_univ_prod]; rfl

/-- The payments into device `c`'s own cells. -/
def minted (c : Dev nD) : sProp 𝕄 := bigSep Finset.univ fun s : Slot => dutyTok ER (cell c s) 0 ()

/-- What device `c` is dealt: its cells at round 0, its place in them, and the payments into them. -/
def dealt (c : Dev nD) : sProp 𝕄 :=
  iprop((bigSep Finset.univ fun s : Slot => roundState ER (table m ρ) (cell c s) 0)
    ∗ (bigSep Finset.univ fun s : Slot => reached ER (cell c s) 0) ∗ places c ∗ minted c)

/-- What it runs with after the cells are shared and the payments handed to who makes them. -/
def shared (c : Dev nD) : sProp 𝕄 := iprop(∃ K, records m ρ K ∗ places c ∗ tokens c)

/-- The initial ghost state deals every device its part. -/
theorem deal : BI.own (ER (initOf allCells allDues)) ⊢ (|==> bigSep Finset.univ (dealt m ρ) : sProp 𝕄) := by
  have hT : bigSep allDues (fun x => (dutyTok ER x.1 x.2.1 x.2.2 : sProp 𝕄)) = bigSep Finset.univ minted := by
    unfold allDues minted; rw [bigSep_map, bigSep_univ_prod]; rfl
  iintro HX
  imod (Rounds.fund ER (table m ρ) allCells allDues) $$ HX with ⟨Hst, Hre, Hat, Htok⟩
  imodintro
  unfold dealt places
  simp only [bigSep_sep']
  rw [← bigSep_cells (fun g => roundState ER (table m ρ) g 0), ← bigSep_cells (fun g => reached ER g 0), ← bigSep_cells (fun g => atPos ER g 0 ∅ 0), ← hT]
  isplitl [Hst]; · iexact Hst
  isplitl [Hre]; · iexact Hre
  isplitl [Hat]; · iexact Hat
  iexact Htok

/-- A device's counters: the barrier's, which outlives the kernel, and the eight of its copies. -/
theorem counters_eq (c : Dev nD) :
    (bigSep Finset.univ fun s : Slot => semVal (cell c s) 0 : sProp 𝕄)
      = iprop(unscopedSems0 c ∗ Pipeline.ownSems0 (Ix := Unit) (Name := ℕ) (U := UU) (Lvl := ℕ) (Val := Elt F) (τ := τ) osem c) := by
  have hb : (unscopedSems0 c : sProp 𝕄) = semVal (barCell c) 0 := by
    unfold unscopedSems0; rw [bigSep_eq_bigSepL_of_eq [SemLoc.reg barS] (by decide) (by decide)]; rfl
  rw [hb, bigSep_univ_sum, bigSep_univ_of_subsingleton ()]; rfl

/-- Device `c`'s cells become shared. -/
theorem share_cells (c : Dev nD) :
    iprop(Pipeline.ownSems0 (Ix := Unit) (Name := ℕ) (U := UU) (Lvl := ℕ) (Val := Elt F) (τ := τ) osem c ∗ unscopedSems0 c ∗ dealt m ρ c)
      ⊢ (|={Set.univ}=> iprop((bigSep Finset.univ fun s : Slot => iprop(∃ κ : ℕ, cellInv ER (table m ρ) κ (cell c s)))
          ∗ (bigSep Finset.univ fun s : Slot => reached ER (cell c s) 0) ∗ places c ∗ minted c) : sProp 𝕄) := by
  have hopen : iprop((bigSep Finset.univ fun s : Slot => semVal (cell c s) 0) ∗ bigSep Finset.univ fun s : Slot => roundState ER (table m ρ) (cell c s) 0)
      ⊢ (|={Set.univ}=> bigSep Finset.univ fun s : Slot => iprop(∃ κ : ℕ, cellInv ER (table m ρ) κ (cell c s)) : sProp 𝕄) := by
    rw [← bigSep_sep']
    exact (bigSep_mono fun s _ => (Rounds.body_intro ER (table m ρ) (cell c s)).trans inv_alloc).trans (bigSep_fupd _ _)
  unfold dealt
  iintro ⟨Ho, Hu, Hst, Hrest⟩
  imod hopen $$ [Ho Hu Hst] with Hinv
  · rw [counters_eq]
    isplitl [Ho Hu]; · isplitl [Hu] <;> iassumption
    iexact Hst
  imodintro
  isplitl [Hinv] <;> iassumption

/-- The payments go to the devices that make them: the barrier's and the receipts' to the partner. -/
theorem hand_over : (bigSep Finset.univ (minted : Dev nD → sProp 𝕄)) ⊢ bigSep Finset.univ fun c : Dev nD => tokens c := by
  have hm : (minted : Dev nD → sProp 𝕄) = fun c => iprop(dutyTok ER (barCell c) 0 ()
      ∗ (bigSep Finset.univ fun k : Fin 4 => dutyTok ER (sendCell k c) 0 ()) ∗ bigSep Finset.univ fun k : Fin 4 => dutyTok ER (recvCell k c) 0 ()) :=
    funext fun c => by unfold minted; exact bigSep_slot _
  rw [hm]
  unfold tokens
  rw [bigSep_sep', bigSep_sep', bigSep_sep', bigSep_sep',
    bigSep_univ_equiv flip (fun c : Dev nD => (dutyTok ER (barCell c) 0 () : sProp 𝕄)),
    bigSep_univ_equiv flip (fun c : Dev nD => (bigSep Finset.univ fun k : Fin 4 => dutyTok ER (recvCell k c) 0 () : sProp 𝕄))]
  exact BI.Entails.refl _

/-- From every device's shared cells, what every device runs with. -/
theorem gather :
    (bigSep Finset.univ fun c : Dev nD => iprop((bigSep Finset.univ fun s : Slot => iprop(∃ κ : ℕ, cellInv ER (table m ρ) κ (cell c s)))
          ∗ (bigSep Finset.univ fun s : Slot => reached ER (cell c s) 0) ∗ places c ∗ minted c) : sProp 𝕄)
      ⊢ bigSep Finset.univ (shared m ρ) := by
  rw [bigSep_sep', bigSep_sep', bigSep_sep',
    ← bigSep_univ_prod (fun p : Dev nD × Slot => iprop(∃ κ : ℕ, cellInv ER (table m ρ) κ (cell p.1 p.2))),
    ← bigSep_univ_prod (fun p : Dev nD × Slot => (reached ER (cell p.1 p.2) 0 : sProp 𝕄))]
  iintro ⟨HI, #HR, Hat, Htok⟩
  ihave HK := (BI.bigSep_exists_pi Finset.univ (fun (p : Dev nD × Slot) (κ : ℕ) => (cellInv ER (table m ρ) κ (cell p.1 p.2) : sProp 𝕄))) $$ HI
  icases HK with ⟨%K, #HI⟩
  ihave Htk := (hand_over (F := F)) $$ Htok
  have each : ∀ c ∈ (Finset.univ : Finset (Dev nD)), iprop(records m ρ K ∗ (places c ∗ tokens c)) ⊢ shared m ρ c := fun c _ => by
    unfold shared
    iintro ⟨#H, Hpt⟩
    iexists K
    isplitr; · iexact H
    iexact Hpt
  have all : iprop(records m ρ K ∗ bigSep Finset.univ fun c : Dev nD => iprop(places c ∗ tokens c)) ⊢ bigSep Finset.univ (shared m ρ) :=
    (sep_mono_left (BI.bigSep_of_persistent Finset.univ (records m ρ K))).trans (by rw [← bigSep_sep']; exact bigSep_mono each)
  iapply all
  isplitr
  · unfold records; isplitl; · iexact HI
    iexact HR
  · rw [bigSep_sep']
    isplitl [Hat] <;> iassumption

/-- Sharing on every device at once. -/
theorem share_all :
    (bigSep Finset.univ fun c => iprop(Pipeline.ownSems0 (Ix := Unit) (Name := ℕ) (U := UU) (Lvl := ℕ) (Val := Elt F) (τ := τ) osem c ∗ unscopedSems0 c ∗ dealt m ρ c) : sProp 𝕄)
      ⊢ |={Set.univ}=> bigSep Finset.univ (shared m ρ) :=
  ((bigSep_mono fun c _ => share_cells m ρ c).trans (bigSep_fupd _ _)).trans (BI.fupd_mono (gather m ρ))

/-! ## The credit -/

/-- What a cell of a given part is owed at the start. -/
def owedTo : Slot → ℕ
  | .inl _ => 1
  | .inr (.inl _) => 0
  | .inr (.inr _) => N

/-- It is owed by the partner, and by nobody else. -/
theorem owes_to (d c : Dev nD) (s : Slot) : O₀ d (cell c s) () = if d = peer c then owedTo s else 0 := by
  have one (e : Dev nD) (s' : Slot) (n : ℕ) : (tallyAt (cell e s') () n : CellTallies nD τ sig Unit) (cell c s) () = if e = c ∧ s' = s then n else 0 := by
    rw [tallyAt_apply]
    refine if_congr ⟨fun h => ?_, fun h => ?_⟩ rfl rfl
    · exact ⟨(cell_inj h.1).1.symm, (cell_inj h.1).2.symm⟩
    · exact ⟨by rw [h.1, h.2], rfl⟩
  have hO : O₀ d (cell c s) () = (∑ k : Fin 4, if peer d = c ∧ (Sum.inr (Sum.inr k) : Slot) = s then N else 0)
      + if peer d = c ∧ (Sum.inl () : Slot) = s then 1 else 0 := by
    unfold O₀ owedFor
    rw [Pi.add_apply, Finsupp.add_apply, Finset.sum_apply, Finsupp.finset_sum_apply]
    exact congrArg₂ (· + ·) (Finset.sum_congr rfl fun k _ => one (peer d) (.inr (.inr k)) N) (one (peer d) (.inl ()) 1)
  rw [hO]
  by_cases h : d = peer c
  · have hp : peer d = c := peer_eq_iff.mpr h
    rw [if_pos h]
    rcases s with u | k | k
    · simp [hp, owedTo]
    · simp [hp, owedTo]
    · simp [hp, owedTo]
  · have hp : ¬ peer d = c := fun h' => h (peer_eq_iff.mp h')
    simp [hp, h]

/-- So the launch credits a cell with what its partner owes it. -/
theorem launch_cell (c : Dev nD) (s : Slot) :
    tallyOn (cell c s) (launchCredit (Pipeline.owing O₀) 0 (cell c s)) = (tallyAt (cell c s) () (owedTo s) : CellTallies nD τ sig Unit) := by
  unfold tallyAt; refine congrArg _ (Finsupp.ext fun u => ?_); cases u
  rw [Pipeline.launchCredit_owing, Finsupp.single_eq_same, Finset.sum_congr rfl fun d _ => owes_to d c s,
    Finset.sum_ite_eq' Finset.univ (peer c) fun _ => owedTo s, if_pos (Finset.mem_univ _)]

/-- A device's launch credit holds what its barrier and its receipts are owed. -/
theorem credit (c : Dev nD) : (Pipeline.launchCred O₀ c : sProp 𝕄) ⊢ credits c := by
  have h : (Pipeline.launchCred O₀ c : sProp 𝕄) ⊢ bigSep Finset.univ fun s : Slot => cred (tallyAt (cell c s) () (owedTo s)) := by
    unfold Pipeline.launchCred
    refine (bigSep_subset (Finset.subset_univ (Finset.univ.map ⟨csem, csem_injective⟩))).trans ?_
    rw [bigSep_map]
    exact bigSep_mono fun s _ => Entails.of_eq (congrArg cred (launch_cell c s))
  rw [bigSep_slot] at h
  unfold credits
  iintro H
  ihave H' := h $$ H
  icases H' with ⟨HB, -, HR⟩
  isplitl [HB]; · iexact HB
  iexact HR

/-! ## The side conditions of the launch theorem -/

/-- What the launch leaves a device with gives it what it runs the kernel with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ shared m ρ c)
      ⊢ |={Set.univ}=> iprop(start m ρ c ∗ emp) := by
  iintro ⟨-, Hlev, Hcr, -, HG⟩
  ihave Hc := (credit (F := F) c) $$ Hcr
  imodintro
  unfold start shared
  isplitl
  · isplitl [HG]; · iexact HG
    isplitl [Hc] <;> iassumption
  · iempintro

/-- That and the kernel's scratch buffers are what the body starts from; -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hb⟩
  isplitl [Hs]; · iexact Hs
  iexact Hb

/-- what the body ends with gives the scratch buffers back, and every counter at zero; -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [counters_eq]
  iintro ⟨Hs, Hr, Hu, Ho⟩
  isplitl [Hu]; · iexact Hu
  isplitl [Ho]; · iexact Ho
  isplitl [Hs]; · iexact Hs
  iexact Hr

/-- and the staging pipeline may wait at the start and at the end. -/
theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, _⟩
      · exact .inl rfl
      · exact .inr rfl)

/-! ## The run -/

/-- What a window's array holds in the end. -/
def atEnd (c : Dev nD) (w : Fin cfg0.W) : Buf (Elt F) ((cfg0.win w).arr.view.loc (c : Thread nD τ)) := (dats m ρ 0 c).arrAt w cfg0.N

set_option maxRecDepth 8000 in
/-- For any float values, from any memory with every counter at zero, every weakly fair run of `@main` on the whole mesh
    ends with each window's array at its final contents and every counter at zero. -/
theorem run_main :
    θ_run defs (onTc (τ := τ) (main (F := F))) (s₀ m ρ) (fun r =>
      (∀ c : Dev nD, ∀ w : Fin cfg0.W, r.2.mem ((cfg0.win w).arr.view.loc (c : Thread nD τ)) = atEnd m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := fun c w => by unfold Dat.share; split <;> rfl)
    (hdistinct := winFacts0.arr_inj)
    (O₀ := O₀) (howed₀ := fun _ => rfl) (howedN := fun _ => rfl)
    (L := L) (lv := lv) (hL := L_of_ne) (hwaits := stage_waits m ρ)
    (G := dealt m ρ) (G' := shared m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := share_all m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The array of `x` is as it was. -/
theorem atEnd_x (c : Dev nD) : atEnd m ρ c (0 : Fin 2) = m ((c : Thread nD τ).loc main_arg0) :=
  (dats (F := F) m ρ 0 c).arrAt_in (0 : Fin 2) rfl _

end Cert.Swap

end
-- ==== Proof.Swap.Reference.lean ====
/-
# The reference's value

Read over the extended reals, the reference's result is the sum of the two halves of its
argument, rows 0–255 and rows 256–511.
-/
module

public import proofs.«01_k».proof.Proof.Gen.ReferenceIdeal.Run
public import Idealize.ShloMosaic.Lib.Pointwise

@[expose] public section

noncomputable section

namespace Cert.Swap

open Cert.ReferenceIdeal Cert.ReferenceIdeal.Gen
open Idealize.ShloMosaic Idealize.ShloMosaic.TcCoe

/-- Half `b` of an array of 512 rows. -/
def half {α : Type} (b : Fin 2) (X : S512x256.Idx → α) : S256x256.Idx → α :=
  fun i => X (ix2 ⟨b.val * 256 + (i 0).val, by have h : (i 0).val < 256 := (i 0).isLt; have := b.isLt; omega⟩ (i 1))

/-- The sum of the two halves. -/
def total (X : S512x256.Idx → EReal) : S256x256.Idx → EReal := fun i => half 0 X i + half 1 X i

/-- The reference's result: the 512 rows as two arrays of 256, summed, is the sum of the two halves. -/
theorem reference_eq (X : S512x256.Idx → EReal) :
    (extf .f32 (truncf .bf16 (Host.reduceAdd (extf .f32 (shapeCast _ (X : FVec Ideal S512x256 .bf16) shapeCasts_S512x256_S2x256x256) bitsLt_bf16_f32)
      (constant S_ .f32 0x00000000#32) reducesTo_S2x256x256_S256x256_d0 h_S_) bitsLt_bf16_f32) bitsLt_bf16_f32 : FVec Ideal S256x256 .f32) = total X := by
  funext i
  unfold total half
  pointwise
  rw [Fin.sum_univ_two]
  simp only [Fin.val_zero, Fin.val_one, Nat.zero_mul, Nat.zero_add, Nat.one_mul]

end Cert.Swap

end
-- ==== Proof.Swap.Value.lean ====
/-
# The value

Read over the extended reals, every device's result is the sum of the two halves of `x`: its
own half plus its partner's, in whichever order.
-/
module

public import proofs.«01_k».proof.Proof.Swap.Launch
public import proofs.«01_k».proof.Proof.Swap.Reference
public import Idealize.ShloMosaic.Lib.Layout

@[expose] public section

noncomputable section

namespace Cert.Swap

open Cert.KernelIdeal Cert.KernelIdeal.Gen
open Idealize.ShloMosaic Idealize.ShloMosaic.TcCoe
open Idealize.ShloMosaic.Pipeline (Dat Cfg Window)

section AnyFloat

variable {F : FTy → Type} [FloatOps F]
variable (m : (ℓ : Loc nD τ sig) → Buf (Elt F) ℓ) (ρ : Dev nD → PrngReg)

/-- The one block of `x` is the whole array, so what is staged is what device `c`'s array holds. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- The one block of the result is the whole array, so in the end the array holds what the body left. -/
theorem atEnd_out (c : Dev nD) : atEnd m ρ c (1 : Fin 2) = outAt m ρ c := by
  have hblk : (win0_1.blk (0 : Fin 1)).view.read (Elt F) (atEnd m ρ c (1 : Fin 2)) = outAt m ρ c := by
    unfold atEnd
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  have hz : (fun a => (win0_1.index (0 : Fin 1)) a * main_v1.ty.shape.size a) = fun _ => 0 := funext fun a => by fin_cases a <;> decide
  exact (Memref.read_access_unit_zero (Elt F) main_v1 hz (fun a => by fin_cases a <;> decide) _).symm.trans hblk

end AnyFloat

/-- A device's first coordinate on the mesh: which half of `x` it holds. -/
def side (c : Dev nD) : Fin 2 := ⟨c.val / 16 % 2, Nat.mod_lt _ (by decide)⟩

/-- The partner holds the other half. -/
theorem side_peer (c : Dev nD) : side (peer c) = 1 - side c := by
  have h : c.val < 32 := c.isLt
  have hp : (peer c).val = (c.val + 16) % 32 := rfl
  have hs : (side (peer c)).val = (peer c).val / 16 % 2 := rfl
  have ht : (side c).val = c.val / 16 % 2 := rfl
  generalize side (peer c) = a at hs ⊢
  generalize side c = b at ht ⊢
  rw [hp] at hs
  fin_cases a <;> fin_cases b <;> simp at hs ht ⊢ <;> omega

/-- The block the mesh lays on device `c` is its half. -/
theorem block_eq {α : Type} (c : Dev nD) (X : Cert.ReferenceIdeal.S512x256.Idx → α) :
    Layout.blockN ⟨2, ![256, 256]⟩ ⟨2, ![512, 256]⟩ (Layout.meshBlock [2, 4, 4] ![[0], []] c) X = half (side c) X := by
  funext i
  unfold half Layout.blockN
  refine congrArg X (funext fun a => Fin.ext ?_)
  rw [Layout.TilesN.idx_val]
  fin_cases a
  · show Layout.meshLin [2, 4, 4] c.val [0] * 256 + (i 0).val = c.val / 16 % 2 * 256 + (i 0).val
    rw [show Layout.meshLin [2, 4, 4] c.val [0] = c.val / 16 % 2 by simp [Layout.meshLin, Layout.meshCoord, Layout.cutSize]]
  · show Layout.meshLin [2, 4, 4] c.val [] * 256 + (i 1).val = (i 1).val
    exact (congrArg (· + (i 1).val) (Nat.zero_mul 256)).trans (Nat.zero_add _)

/-- A half plus the other is the sum of both, whichever comes first. -/
theorem halves (b : Fin 2) (X : Cert.ReferenceIdeal.S512x256.Idx → EReal) :
    sumOf (F := Ideal) (half b X) (half (1 - b) X) = total X := by
  funext i
  show half b X i + half (1 - b) X i = half 0 X i + half 1 X i
  fin_cases b
  · rfl
  · exact add_comm _ _

/-- From memories that hold the halves of `X`, every device's result array ends as the sum of the two. -/
theorem result_eq (m : (ℓ : Loc nD τ sig) → Buf (Elt Ideal) ℓ) (ρ : Dev nD → PrngReg) (X : Cert.ReferenceIdeal.S512x256.Idx → EReal)
    (h : ∀ c : Dev nD, m ((c : Thread nD τ).loc main_arg0) = half (side c) X) (c : Dev nD) :
    atEnd m ρ c (1 : Fin 2) = total X := by
  rw [atEnd_out]; unfold outAt
  rw [xstg_eq, xstg_eq, h c, h (peer c), side_peer]
  exact halves (side c) X

end Cert.Swap

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Swap.Value
public import Idealize.ShloMosaic.Adequacy
public import Idealize.ShloMosaic.Init

@[expose] public section

noncomputable section

namespace Cert.Proof

open Idealize.ShloMosaic Idealize.SL.Sem Cert.Kernel

/-- At any float values: the kernel runs, leaves `x` unchanged, and ends with every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c (0 : Fin 2)).trans (Cert.Swap.atEnd_x m ρ c), h.2⟩) (Cert.Swap.run_main m ρ)

/-- The two programs' kernel bodies are the same, -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  rcases l with ⟨_ | n, h⟩
  · rfl
  · exact absurd h (Nat.not_lt.2 (Nat.le_add_left _ _))

/-- and so are all their definitions. -/
theorem defs_eq : Cert.Kernel.defs (F := Bits) = Cert.KernelIdeal.defs (F := Bits) := congrArg (Pipeline.defs _) bodies_eq

/-- So on bit patterns, the kernel being the same program, -/
theorem frame_kernel : Cert.quiescent_Kernel := fun m ρ _ => by
  rw [defs_eq]; exact frame_any (F := Bits) m ρ

/-- and over the extended reals. -/
theorem frame_kernelIdeal : Cert.quiescent_KernelIdeal := fun m ρ _ => frame_any (F := Ideal) m ρ

/-- The reference runs and leaves its argument unchanged; it has no counters. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, every device's result is the reference's. -/
theorem value : Cert.algebraic_KernelIdeal_ReferenceIdeal := fun m ρ m' ρ' _ h =>
  have hx := fun c => (h c).trans (Cert.Swap.block_eq c _)
  ⟨Cert.Swap.total (m' (((0 : Dev Cert.ReferenceIdeal.nD).tc : Thread Cert.ReferenceIdeal.nD Cert.ReferenceIdeal.τ).loc Cert.ReferenceIdeal.main_arg0)),
    (θ_run Cert.KernelIdeal.defs _ _).mono (fun _ r c =>
      ⟨(r.1 c (1 : Fin 2)).trans (Cert.Swap.result_eq m ρ _ hx c), (r.1 c (0 : Fin 2)).trans (Cert.Swap.atEnd_x m ρ c)⟩) (Cert.Swap.run_main (F := Ideal) m ρ),
    (θ_run Cert.ReferenceIdeal.defs _ _).mono (fun _ r => ⟨(r 0).1.trans (Cert.Swap.reference_eq _), (r 0).2⟩) (Cert.ReferenceIdeal.Value.run (F := Ideal) m' ρ')⟩

/-- All five claims. -/
theorem claim : Cert.Claim :=
  ⟨Cert.Kernel.Gen.facts, Cert.KernelIdeal.Gen.facts, Cert.ReferenceIdeal.Gen.facts,
    frame_kernel, frame_kernelIdeal, frame_referenceIdeal, trivial, value⟩

end Cert.Proof

end
